-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_order [hPre_indices_in_order : Cert.Pre_indices_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_order [hPre_indices_in_order : Cert.Pre_indices_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_indices_in_order [hKernelIdeal : Cert.KernelIdeal.Facts] [hPre_indices_in_order : Cert.Pre_indices_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_indices_in_order [hReferenceIdeal : Cert.ReferenceIdeal.Facts] [hPre_indices_in_order : Cert.Pre_indices_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_indices_in_order [hKernelIdeal : Cert.KernelIdeal.Facts] [hReferenceIdeal : Cert.ReferenceIdeal.Facts] [hPre_indices_in_order : Cert.Pre_indices_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_indices_in_order : Cert.Pre_indices_in_order.Facts),
    quiescent_Kernel (hKernel := hKernel)
    ∧ quiescent_KernelIdeal (hKernelIdeal := hKernelIdeal)
    ∧ quiescent_KernelIdeal_pre_indices_in_order (hKernelIdeal := hKernelIdeal) (hPre_indices_in_order := hPre_indices_in_order)
    ∧ quiescent_ReferenceIdeal (hReferenceIdeal := hReferenceIdeal)
    ∧ quiescent_ReferenceIdeal_pre_indices_in_order (hReferenceIdeal := hReferenceIdeal) (hPre_indices_in_order := hPre_indices_in_order)
    ∧ preserves_Kernel_KernelIdeal
    ∧ algebraic_KernelIdeal_ReferenceIdeal_pre_indices_in_order (hKernelIdeal := hKernelIdeal) (hReferenceIdeal := hReferenceIdeal) (hPre_indices_in_order := hPre_indices_in_order)
-- ==== Pre_indices_in_order.lean ====
abbrev S16x100000x3 : Shape := ⟨3, ![16, 100000, 3]⟩
abbrev S16x8192x1 : Shape := ⟨3, ![16, 8192, 1]⟩
abbrev S16x8192x3 : Shape := ⟨3, ![16, 8192, 3]⟩
abbrev S16x100000x1 : Shape := ⟨3, ![16, 100000, 1]⟩
abbrev S8192x1 : Shape := ⟨2, ![8192, 1]⟩
abbrev S8192 : Shape := ⟨1, ![8192]⟩
abbrev S_ : Shape := ⟨0, ![]⟩

class Facts : Prop where
  reducesTo_S8192_S_d0 : S8192.ReducesTo [0] S_
  h_S_ : 0 < S_.numel

variable [Facts]

def fn {F : FTy → Type} [FloatOps F] (main_arg0 : FVec F S16x100000x3 .f32) (main_arg1 : FVec F S16x8192x1 .f32) (main_arg2 : FVec F S16x8192x3 .f32) (main_arg3 : FVec F S16x100000x1 .f32) (main_arg4 : FVec F S8192x1 .f32) (main_arg5 : IVec S8192 32) : IVec S_ 1 :=
  let main_v0 : IVec S8192 32 := iotaInDim S8192 32 0
  let main_v1 : IVec S8192 1 := cmpi .eq main_arg5 main_v0
  let main_c : IVec S_ 1 := constantI S_ 1 1#1
  let main_v2 : IVec S_ 1 := (fun x v => Host.reduce IntOp.andi x v reducesTo_S8192_S_d0 h_S_) main_v1 main_c
  main_v2
-- ==== Kernel.lean ====
abbrev S16x100000x3 : Shape := ⟨3, ![16, 100000, 3]⟩
abbrev S16x8192x1 : Shape := ⟨3, ![16, 8192, 1]⟩
abbrev S16x8192x3 : Shape := ⟨3, ![16, 8192, 3]⟩
abbrev S16x100000x1 : Shape := ⟨3, ![16, 100000, 1]⟩
abbrev S8192x1 : Shape := ⟨2, ![8192, 1]⟩
abbrev S8192 : Shape := ⟨1, ![8192]⟩
abbrev S16x3x8192 : Shape := ⟨3, ![16, 3, 8192]⟩
abbrev S16x1x8192 : Shape := ⟨3, ![16, 1, 8192]⟩
abbrev S1x8192 : Shape := ⟨2, ![1, 8192]⟩
abbrev S1x3x8192 : Shape := ⟨3, ![1, 3, 8192]⟩
abbrev S1x1x8192 : Shape := ⟨3, ![1, 1, 8192]⟩
abbrev S3x8192 : Shape := ⟨2, ![3, 8192]⟩
abbrev S_ : Shape := ⟨0, ![]⟩
abbrev S1x100000x1 : Shape := ⟨3, ![1, 100000, 1]⟩

abbrev nBuf : Space → Nat
  | .hbm => 26
  | .vmem => 13
  | .smem => 0
  | _ => 0

abbrev bufTy : (tb : Table) → Fin (tcTables nBuf tb) → BufTy
  | .hbm, ⟨0, _⟩ => ⟨S16x100000x3, .f32⟩
  | .hbm, ⟨1, _⟩ => ⟨S16x8192x1, .f32⟩
  | .hbm, ⟨2, _⟩ => ⟨S16x8192x3, .f32⟩
  | .hbm, ⟨3, _⟩ => ⟨S16x100000x1, .f32⟩
  | .hbm, ⟨4, _⟩ => ⟨S8192x1, .f32⟩
  | .hbm, ⟨5, _⟩ => ⟨S8192, .i32⟩
  | .hbm, ⟨6, _⟩ => ⟨S16x8192x3, .f32⟩
  | .hbm, ⟨7, _⟩ => ⟨S16x3x8192, .f32⟩
  | .hbm, ⟨8, _⟩ => ⟨S16x3x8192, .f32⟩
  | .hbm, ⟨9, _⟩ => ⟨S16x1x8192, .f32⟩
  | .hbm, ⟨10, _⟩ => ⟨S16x8192x1, .f32⟩
  | .hbm, ⟨11, _⟩ => ⟨S16x1x8192, .f32⟩
  | .hbm, ⟨12, _⟩ => ⟨S1x8192, .f32⟩
  | .hbm, ⟨13, _⟩ => ⟨S16x3x8192, .f32⟩
  | .hbm, ⟨14, _⟩ => ⟨S16x1x8192, .f32⟩
  | .hbm, ⟨15, _⟩ => ⟨S16x8192x3, .f32⟩
  | .hbm, ⟨16, _⟩ => ⟨S_, .i32⟩
  | .hbm, ⟨17, _⟩ => ⟨S_, .f32⟩
  | .hbm, ⟨18, _⟩ => ⟨S16x100000x3, .f32⟩
  | .hbm, ⟨19, _⟩ => ⟨S1x100000x1, .i32⟩
  | .hbm, ⟨20, _⟩ => ⟨S_, .i32⟩
  | .hbm, ⟨21, _⟩ => ⟨S1x100000x1, .i32⟩
  | .hbm, ⟨22, _⟩ => ⟨S1x100000x1, .i1⟩
  | .hbm, ⟨23, _⟩ => ⟨S16x100000x3, .i1⟩
  | .hbm, ⟨24, _⟩ => ⟨S16x100000x3, .f32⟩
  | .hbm, ⟨25, _⟩ => ⟨S16x8192x1, .f32⟩
  | .local _ .vmem, ⟨0, _⟩ => ⟨S1x3x8192, .f32⟩
  | .local _ .vmem, ⟨1, _⟩ => ⟨S1x3x8192, .f32⟩
  | .local _ .vmem, ⟨2, _⟩ => ⟨S1x3x8192, .f32⟩
  | .local _ .vmem, ⟨3, _⟩ => ⟨S1x3x8192, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | .local _ .vmem, ⟨8, _⟩ => ⟨S1x8192, .f32⟩
  | .local _ .vmem, ⟨9, _⟩ => ⟨S1x3x8192, .f32⟩
  | .local _ .vmem, ⟨10, _⟩ => ⟨S1x3x8192, .f32⟩
  | .local _ .vmem, ⟨11, _⟩ => ⟨S1x1x8192, .f32⟩
  | .local _ .vmem, ⟨12, _⟩ => ⟨S1x1x8192, .f32⟩
  | _, _ => ⟨S16x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x100000x3 : Shape := ⟨3, ![16, 100000, 3]⟩
abbrev S16x8192x1 : Shape := ⟨3, ![16, 8192, 1]⟩
abbrev S16x8192x3 : Shape := ⟨3, ![16, 8192, 3]⟩
abbrev S16x100000x1 : Shape := ⟨3, ![16, 100000, 1]⟩
abbrev S8192x1 : Shape := ⟨2, ![8192, 1]⟩
abbrev S8192 : Shape := ⟨1, ![8192]⟩
abbrev S_ : Shape := ⟨0, ![]⟩
abbrev S1 : Shape := ⟨1, ![1]⟩
abbrev S1x1 : Shape := ⟨2, ![1, 1]⟩
abbrev S16x8192 : Shape := ⟨2, ![16, 8192]⟩
abbrev S1x8192x1 : Shape := ⟨3, ![1, 8192, 1]⟩

abbrev nBuf : Space → Nat
  | .hbm => 116
  | .vmem => 0
  | .smem => 0
  | _ => 0

abbrev bufTy : (tb : Table) → Fin (tcTables nBuf tb) → BufTy
  | .hbm, ⟨0, _⟩ => ⟨S16x100000x3, .f32⟩
  | .hbm, ⟨1, _⟩ => ⟨S16x8192x1, .f32⟩
  | .hbm, ⟨2, _⟩ => ⟨S16x8192x3, .f32⟩
  | .hbm, ⟨3, _⟩ => ⟨S16x100000x1, .f32⟩
  | .hbm, ⟨4, _⟩ => ⟨S8192x1, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S16x8192x3, .f32⟩
  | .hbm, ⟨25, _⟩ => ⟨S16x8192x3, .i1⟩
  | .hbm, ⟨26, _⟩ => ⟨S_, .f32⟩
  | .hbm, ⟨27, _⟩ => ⟨S16x8192x3, .f32⟩
  | .hbm, ⟨28, _⟩ => ⟨S16x8192x3, .f32⟩
  | .hbm, ⟨29, _⟩ => ⟨S16x8192x3, .f32⟩
  | .hbm, ⟨30, _⟩ => ⟨S16x8192x3, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x1, .f32⟩
  | .hbm, ⟨35, _⟩ => ⟨S1x8192x1, .f32⟩
  | .hbm, ⟨36, _⟩ => ⟨S16x8192x1, .f32⟩
  | .hbm, ⟨37, _⟩ => ⟨S16x8192x1, .f32⟩
  | .hbm, ⟨38, _⟩ => ⟨S16x8192x3, .f32⟩
  | .hbm, ⟨39, _⟩ => ⟨S16x8192x3, .f32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S1, .i32⟩
  | .hbm, ⟨49, _⟩ => ⟨S_, .i32⟩
  | .hbm, ⟨50, _⟩ => ⟨S8192x1, .i32⟩
  | .hbm, ⟨51, _⟩ => ⟨S8192x1, .i1⟩
  | .hbm, ⟨52, _⟩ => ⟨S1x1, .i32⟩
  | .hbm, ⟨53, _⟩ => ⟨S8192x1, .i32⟩
  | .hbm, ⟨54, _⟩ => ⟨S8192x1, .i1⟩
  | .hbm, ⟨55, _⟩ => ⟨S8192x1, .i1⟩
  | .hbm, ⟨56, _⟩ => ⟨S_, .i1⟩
  | .hbm, ⟨57, _⟩ => ⟨S8192, .i1⟩
  | .hbm, ⟨58, _⟩ => ⟨S16x8192x1, .f32⟩
  | .hbm, ⟨59, _⟩ => ⟨S16x8192x1, .i1⟩
  | .hbm, ⟨60, _⟩ => ⟨S_, .f32⟩
  | .hbm, ⟨61, _⟩ => ⟨S16x8192x1, .f32⟩
  | .hbm, ⟨62, _⟩ => ⟨S16x8192x1, .f32⟩
  | .hbm, ⟨63, _⟩ => ⟨S_, .f32⟩
  | .hbm, ⟨64, _⟩ => ⟨S16x8192x1, .f32⟩
  | .hbm, ⟨65, _⟩ => ⟨S16x8192x1, .i1⟩
  | .hbm, ⟨66, _⟩ => ⟨S_, .f32⟩
  | .hbm, ⟨67, _⟩ => ⟨S_, .f32⟩
  | .hbm, ⟨68, _⟩ => ⟨S16x8192x1, .f32⟩
  | .hbm, ⟨69, _⟩ => ⟨S16x8192x1, .f32⟩
  | .hbm, ⟨70, _⟩ => ⟨S16x8192x1, .f32⟩
  | .hbm, ⟨71, _⟩ => ⟨S_, .f32⟩
  | .hbm, ⟨72, _⟩ => ⟨S16x8192x1, .f32⟩
  | .hbm, ⟨73, _⟩ => ⟨S16x8192x1, .f32⟩
  | .hbm, ⟨74, _⟩ => ⟨S16x8192x1, .f32⟩
  | .hbm, ⟨75, _⟩ => ⟨S_, .f32⟩
  | .hbm, ⟨76, _⟩ => ⟨S16x8192x1, .f32⟩
  | .hbm, ⟨77, _⟩ => ⟨S16x8192x1, .f32⟩
  | .hbm, ⟨78, _⟩ => ⟨S16x8192x1, .f32⟩
  | .hbm, ⟨79, _⟩ => ⟨S16x8192x1, .f32⟩
  | .hbm, ⟨80, _⟩ => ⟨S_, .i32⟩
  | .hbm, ⟨81, _⟩ => ⟨S8192, .i32⟩
  | .hbm, ⟨82, _⟩ => ⟨S8192, .i1⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S8192, .i32⟩
  | .hbm, ⟨87, _⟩ => ⟨S8192x1, .i32⟩
  | .hbm, ⟨88, _⟩ => ⟨S1, .i32⟩
  | .hbm, ⟨89, _⟩ => ⟨S_, .i32⟩
  | .hbm, ⟨90, _⟩ => ⟨S8192x1, .i32⟩
  | .hbm, ⟨91, _⟩ => ⟨S8192x1, .i1⟩
  | .hbm, ⟨92, _⟩ => ⟨S1x1, .i32⟩
  | .hbm, ⟨93, _⟩ => ⟨S8192x1, .i32⟩
  | .hbm, ⟨94, _⟩ => ⟨S8192x1, .i1⟩
  | .hbm, ⟨95, _⟩ => ⟨S8192x1, .i1⟩
  | .hbm, ⟨96, _⟩ => ⟨S_, .i1⟩
  | .hbm, ⟨97, _⟩ => ⟨S8192, .i1⟩
  | .hbm, ⟨98, _⟩ => ⟨S16x8192x1, .f32⟩
  | .hbm, ⟨99, _⟩ => ⟨S16x8192x1, .i1⟩
  | .hbm, ⟨100, _⟩ => ⟨S_, .f32⟩
  | .hbm, ⟨101, _⟩ => ⟨S16x8192x1, .f32⟩
  | .hbm, ⟨102, _⟩ => ⟨S16x8192x1, .f32⟩
  | .hbm, ⟨103, _⟩ => ⟨S16x8192x1, .f32⟩
  | .hbm, ⟨104, _⟩ => ⟨S16x8192x3, .f32⟩
  | .hbm, ⟨105, _⟩ => ⟨S16x8192x3, .f32⟩
  | .hbm, ⟨106, _⟩ => ⟨S16x8192x3, .f32⟩
  | .hbm, ⟨107, _⟩ => ⟨S_, .i32⟩
  | .hbm, ⟨108, _⟩ => ⟨S8192, .i32⟩
  | .hbm, ⟨109, _⟩ => ⟨S8192, .i1⟩
  | .hbm, ⟨110, _⟩ => ⟨S_, .i32⟩
  | .hbm, ⟨111, _⟩ => ⟨S8192, .i32⟩
  | .hbm, ⟨112, _⟩ => ⟨S8192, .i32⟩
  | .hbm, ⟨113, _⟩ => ⟨S8192, .i32⟩
  | .hbm, ⟨114, _⟩ => ⟨S8192x1, .i32⟩
  | .hbm, ⟨115, _⟩ => ⟨S16x100000x3, .f32⟩
  | _, _ => ⟨S16x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v8 : Ref sig .tc := ⟨.hbm, 62, rfl⟩
abbrev main_cst : Ref sig .tc := ⟨.hbm, 63, rfl⟩
abbrev main_v9 : Ref sig .tc := ⟨.hbm, 64, rfl⟩
abbrev main_v10 : Ref sig .tc := ⟨.hbm, 65, rfl⟩
abbrev main_cst_0 : Ref sig .tc := ⟨.hbm, 66, rfl⟩
abbrev main_call3_v0 : Ref sig .tc := ⟨.hbm, 67, rfl⟩
abbrev main_call3_v1 : Ref sig .tc := ⟨.hbm, 68, rfl⟩
abbrev main_v11 : Ref sig .tc := ⟨.hbm, 69, rfl⟩
abbrev main_v12 : Ref sig .tc := ⟨.hbm, 70, rfl⟩
abbrev main_cst_1 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_cst_2 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_call4_c : Ref sig .tc := ⟨.hbm, 80, rfl⟩
abbrev main_call4_v0 : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_c_1 : Ref sig .tc := ⟨.hbm, 88, rfl⟩
abbrev main_call4_c_2 : Ref sig .tc := ⟨.hbm, 89, rfl⟩
abbrev main_call4_v6 : Ref sig .tc := ⟨.hbm, 90, rfl⟩
abbrev main_call4_v7 : Ref sig .tc := ⟨.hbm, 91, rfl⟩
abbrev main_call4_v8 : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_c_3 : Ref sig .tc := ⟨.hbm, 96, rfl⟩
abbrev main_call4_v12 : Ref sig .tc := ⟨.hbm, 97, rfl⟩
abbrev main_call4_v13 : Ref sig .tc := ⟨.hbm, 98, rfl⟩
abbrev main_call4_v14 : Ref sig .tc := ⟨.hbm, 99, rfl⟩
abbrev main_call4_cst : Ref sig .tc := ⟨.hbm, 100, rfl⟩
abbrev main_call4_v15 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_c : Ref sig .tc := ⟨.hbm, 107, rfl⟩
abbrev main_v25 : Ref sig .tc := ⟨.hbm, 108, rfl⟩
abbrev main_v26 : Ref sig .tc := ⟨.hbm, 109, rfl⟩
abbrev main_c_3 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩

abbrev nD : Nat := 1
abbrev τ : Topo := Topo.v7x

variable {F : FTy → Type} [FloatOps F]
-- ==== Proof.Step.lean ====
module

public import Idealize.ShloMosaic.Lib.Pipeline.ValueKit
public import Idealize.ShloMosaic.Lib.Pointwise

@[expose] public section

noncomputable section

/-! # One row's constraint step

Both programs do the same arithmetic for each grasped vertex of each batch. It is written down here
once, for one row: `v` is the vertex, `p` the grasp point, `w` the vertex weight, `l` the multiplier
and `d` the rest distance. -/

namespace Cert.Step

open Idealize.ShloMosaic

/-- The Euclidean distance between the vertex and its grasp point. -/
def dist (v p : Fin 3 → EReal) : EReal := Ideal.sqrt (∑ k, (v k - p k) * (v k - p k))

/-- The change of the multiplier, for a row whose distance is `r`. A weight of zero counts as infinite, and
    `1120403456` is the bit pattern of one hundred, the compliance. -/
def delta (r w l d : EReal) : EReal :=
  Ideal.div (-(r - d) - Ideal.ofBits .f32 1120403456#32 * l)
    ((if w = 0 then Ideal.ofBits .f32 2139095040#32 else w) + Ideal.ofBits .f32 1120403456#32)

/-- Coordinate `k` of the moved vertex, for a row whose distance is `r`. -/
def move (r w l d x q : EReal) : EReal := x + w * delta r w l d * Ideal.div (x - q) r

/-- The row of a 100000-row array that has the number of row `g` of an 8192-row one. -/
def wide (g : Fin 8192) : Fin 100000 := ⟨g.val, by omega⟩

/-- The entries of an array of shape `a × b × c`. -/
abbrev Cube (a b c : Nat) : Type := (⟨3, ![a, b, c]⟩ : Shape).Idx → EReal

/-- The entries of an array of shape `a × b`. -/
abbrev Sheet (a b : Nat) : Type := (⟨2, ![a, b]⟩ : Shape).Idx → EReal

section Rows

variable (V : Cube 16 100000 3) (L : Cube 16 8192 1) (P : Cube 16 8192 3) (W : Cube 16 100000 1) (D : Sheet 8192 1)

/-- The distance of row `g` of batch `b`, from the arrays of vertices and grasp points. -/
def rowDist (b : Fin 16) (g : Fin 8192) : EReal := dist (fun k => V (ix3 b (wide g) k)) (fun k => P (ix3 b g k))

/-- The change of the multiplier of row `g` of batch `b`, from the argument arrays. -/
def rowDelta (b : Fin 16) (g : Fin 8192) : EReal :=
  delta (rowDist V P b g) (W (ix3 b (wide g) 0)) (L (ix3 b g 0)) (D (ix2 g 0))

/-- Coordinate `k` of the moved vertex of row `g` of batch `b`, from the argument arrays. -/
def rowMove (b : Fin 16) (g : Fin 8192) (k : Fin 3) : EReal :=
  move (rowDist V P b g) (W (ix3 b (wide g) 0)) (L (ix3 b g 0)) (D (ix2 g 0)) (V (ix3 b (wide g) k)) (P (ix3 b g k))

end Rows

end Cert.Step

end
-- ==== Proof.Blocks.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value
public import Idealize.ShloMosaic.Lib.Claim
public import proofs.«01_k».proof.Proof.Step

@[expose] public section

set_option maxRecDepth 16384

noncomputable section

/-! # What the kernel's two output arrays hold when its grid is done -/

namespace Cert.KernelIdeal.Entries

open Cert.KernelIdeal Cert.KernelIdeal.Gen Idealize.ShloMosaic Idealize.ShloMosaic.TcCoe Idealize.SL.Sem
open Idealize.ShloMosaic.Pipeline (Dat)

/-- The coordinate differences the body forms from its blocks of vertices and grasp points. -/
theorem gap_apply (x0 x1 : FVec Ideal S1x3x8192 .f32) (k : Fin 3) (g : Fin 8192) :
    k0_pay2 (F := Ideal) x0 x1 (ix2 k g) = x0 (ix3 0 k g) - x1 (ix3 0 k g) := by
  pointwise [k0_pay2]

/-- The distance the body forms. -/
theorem dist_apply (x0 x1 : FVec Ideal S1x3x8192 .f32) (e : Fin 1) (g : Fin 8192) :
    k0_pay3 (F := Ideal) x0 x1 (ix2 e g) = Step.dist (fun k => x0 (ix3 0 k g)) (fun k => x1 (ix3 0 k g)) := by
  unfold Step.dist
  pointwise [k0_pay2, k0_pay3]

/-- The change of the multiplier the body forms. -/
theorem delta_apply (x0 x1 : FVec Ideal S1x3x8192 .f32) (x2 x3 : FVec Ideal S1x1x8192 .f32) (x4 : FVec Ideal S1x8192 .f32) (e : Fin 1) (g : Fin 8192) :
    k0_pay6 (F := Ideal) x0 x1 x4 x3 x2 (ix2 e g)
      = Step.delta (k0_pay3 (F := Ideal) x0 x1 (ix2 e g)) (x3 (ix3 0 0 g)) (x2 (ix3 0 0 g)) (x4 (ix2 0 g)) := by
  unfold Step.delta
  obtain rfl : e = 0 := Subsingleton.elim _ _
  pointwise [k0_pay6, k0_pay4, k0_pay5]
  rw [sub_eq_add_neg (0 : EReal), zero_add]

/-- The block of moved vertices the body stores. -/
theorem store5_apply (x0 x1 : FVec Ideal S1x3x8192 .f32) (x2 x3 : FVec Ideal S1x1x8192 .f32) (x4 : FVec Ideal S1x8192 .f32) (e : Fin 1) (k : Fin 3) (g : Fin 8192) :
    k0_pay1 (F := Ideal) (k0_pay2 x0 x1) (k0_pay3 x0 x1) (k0_pay4 x3) (k0_pay6 x0 x1 x4 x3 x2) x0 (ix3 e k g)
      = Step.move (k0_pay3 (F := Ideal) x0 x1 (ix2 0 g)) (x3 (ix3 0 0 g)) (x2 (ix3 0 0 g)) (x4 (ix2 0 g)) (x0 (ix3 0 k g)) (x1 (ix3 0 k g)) := by
  unfold Step.move
  rw [← delta_apply x0 x1 x2 x3 x4 0 g, ← gap_apply]
  pointwise [k0_pay1, k0_pay4]

/-- The block of multipliers the body stores. -/
theorem store6_apply (x0 x1 : FVec Ideal S1x3x8192 .f32) (x2 x3 : FVec Ideal S1x1x8192 .f32) (x4 : FVec Ideal S1x8192 .f32) (e k : Fin 1) (g : Fin 8192) :
    k0_pay7 (F := Ideal) x0 x1 x4 x3 x2 (ix3 e k g)
      = x2 (ix3 0 0 g) + Step.delta (k0_pay3 (F := Ideal) x0 x1 (ix2 0 g)) (x3 (ix3 0 0 g)) (x2 (ix3 0 0 g)) (x4 (ix2 0 g)) := by
  rw [← delta_apply x0 x1 x2 x3 x4 0 g]
  pointwise [k0_pay7, k0_pay5]

variable (m : (ℓ : Loc nD τ sig) → Buf (Elt Ideal) ℓ) (c : Dev nD)

/-- The vertices. -/
abbrev A0 : FVec Ideal S16x100000x3 .f32 := m ((c.tc : Thread nD τ).loc main_arg0)
/-- The multipliers. -/
abbrev A1 : FVec Ideal S16x8192x1 .f32 := m ((c.tc : Thread nD τ).loc main_arg1)
/-- The grasp points. -/
abbrev A2 : FVec Ideal S16x8192x3 .f32 := m ((c.tc : Thread nD τ).loc main_arg2)
/-- The vertex weights. -/
abbrev A3 : FVec Ideal S16x100000x1 .f32 := m ((c.tc : Thread nD τ).loc main_arg3)
/-- The rest distances. -/
abbrev A4 : FVec Ideal S8192x1 .f32 := m ((c.tc : Thread nD τ).loc main_arg4)

/-- The block each window shows at a grid point: the batch of that number, and for the rest distances the whole row. -/
theorem blockOf : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![0, 0]
    ∧ win0_5.index t = ![t.val, 0, 0]
    ∧ win0_6.index t = ![t.val, 0, 0] :=
  (by decide +kernel : ∀ t : Fin grid0.N, _)

/-- A grid point as a batch number. -/
def batch (t : Fin cfg0.N) : Fin 16 := t

/-- The first 8192 vertices as the region finds them, coordinates first. -/
theorem entry0 (b : Fin 16) (k : Fin 3) (g : Fin 8192) : V m c main_v1 (ix3 b k g) = A0 m c (ix3 b (Step.wide g) k) := by
  simp only [V, V0, hostOps0, List.flatten_cons, List.flatten_nil, List.append_nil]
  entry_read
  pointwise
  rfl

/-- The grasp points as the region finds them, coordinates first. -/
theorem entry1 (b : Fin 16) (k : Fin 3) (g : Fin 8192) : V m c main_v2 (ix3 b k g) = A2 m c (ix3 b g k) := by
  simp only [V, V0, hostOps0, List.flatten_cons, List.flatten_nil, List.append_nil]
  entry_read
  pointwise

/-- The multipliers as the region finds them. -/
theorem entry2 (b : Fin 16) (e : Fin 1) (g : Fin 8192) : V m c main_v3 (ix3 b e g) = A1 m c (ix3 b g e) := by
  simp only [V, V0, hostOps0, List.flatten_cons, List.flatten_nil, List.append_nil]
  entry_read
  pointwise
  obtain rfl : e = 0 := Subsingleton.elim _ _
  rfl

/-- The first 8192 weights as the region finds them. -/
theorem entry3 (b : Fin 16) (e : Fin 1) (g : Fin 8192) : V m c main_v5 (ix3 b e g) = A3 m c (ix3 b (Step.wide g) e) := by
  simp only [V, V0, hostOps0, List.flatten_cons, List.flatten_nil, List.append_nil]
  entry_read
  pointwise
  obtain rfl : e = 0 := Subsingleton.elim _ _
  rfl

/-- The rest distances as the region finds them, as one row. -/
theorem entry4 (e : Fin 1) (g : Fin 8192) : V m c main_v6 (ix2 e g) = A4 m c (ix2 g e) := by
  simp only [V, V0, hostOps0, List.flatten_cons, List.flatten_nil, List.append_nil]
  entry_read
  pointwise
  obtain rfl : e = 0 := Subsingleton.elim _ _
  rfl

/-- The block of vertices at a grid point: the first 8192 vertices of its batch, coordinates first. -/
theorem in0 (t : Fin cfg0.N) (e : Fin 1) (k : Fin 3) (g : Fin 8192) : iblk m c 0 t (ix3 e k g) = A0 m c (ix3 (batch t) (Step.wide g) k) := by
  refine Eq.trans ?_ (entry0 m c (batch t) k g)
  blk_ext [iblk, batch, blockOf t]

/-- The block of grasp points at a grid point. -/
theorem in1 (t : Fin cfg0.N) (e : Fin 1) (k : Fin 3) (g : Fin 8192) : iblk m c 1 t (ix3 e k g) = A2 m c (ix3 (batch t) g k) := by
  refine Eq.trans ?_ (entry1 m c (batch t) k g)
  blk_ext [iblk, batch, blockOf t]

/-- The block of multipliers at a grid point. -/
theorem in2 (t : Fin cfg0.N) (e k : Fin 1) (g : Fin 8192) : iblk m c 2 t (ix3 e k g) = A1 m c (ix3 (batch t) g k) := by
  refine Eq.trans ?_ (entry2 m c (batch t) k g)
  blk_ext [iblk, batch, blockOf t]

/-- The block of vertex weights at a grid point. -/
theorem in3 (t : Fin cfg0.N) (e k : Fin 1) (g : Fin 8192) : iblk m c 3 t (ix3 e k g) = A3 m c (ix3 (batch t) (Step.wide g) k) := by
  refine Eq.trans ?_ (entry3 m c (batch t) k g)
  blk_ext [iblk, batch, blockOf t]

/-- The row of rest distances, the same at every grid point. -/
theorem in4 (t : Fin cfg0.N) (e : Fin 1) (g : Fin 8192) : iblk m c 4 t (ix2 e g) = A4 m c (ix2 g e) := by
  refine Eq.trans ?_ (entry4 m c e g)
  blk_ext [iblk, blockOf t]

/-- The moved vertices, coordinates first. -/
def movedT : FVec Ideal S16x3x8192 .f32 := fun j => Step.rowMove (A0 m c) (A1 m c) (A2 m c) (A3 m c) (A4 m c) (j 0) (j 2) (j 1)

/-- The new multipliers, rows last. -/
def multT : FVec Ideal S16x1x8192 .f32 := fun j =>
  A1 m c (ix3 (j 0) (j 2) 0) + Step.rowDelta (A0 m c) (A1 m c) (A2 m c) (A3 m c) (A4 m c) (j 0) (j 2)

/-- The distance the body forms at a grid point is the distance of the row in that batch. -/
theorem dist_block (t : Fin cfg0.N) (e : Fin 1) (g : Fin 8192) :
    k0_pay3 (F := Ideal) (iblk m c 0 t) (iblk m c 1 t) (ix2 e g) = Step.rowDist (A0 m c) (A2 m c) (batch t) g := by
  refine (dist_apply _ _ e g).trans ?_
  unfold Step.rowDist
  simp only [in0, in1]

/-- What the body stores of the moved vertices at a grid point is that batch of them. -/
theorem block5 (t : Fin cfg0.N) (y : S1x3x8192.Idx) :
    k0_pay1 (F := Ideal) (k0_pay2 (iblk m c 0 t) (iblk m c 1 t)) (k0_pay3 (iblk m c 0 t) (iblk m c 1 t)) (k0_pay4 (iblk m c 3 t))
      (k0_pay6 (iblk m c 0 t) (iblk m c 1 t) (iblk m c 4 t) (iblk m c 3 t) (iblk m c 2 t)) (iblk m c 0 t) y
      = movedT m c (((cfg0.win 5).blk t).view.emb y) := by
  idx_vars y
  refine (store5_apply _ _ _ _ _ y0 y1 y2).trans ?_
  rw [dist_block, in0, in1, in2, in3, in4]
  have e : ((cfg0.win 5).blk t).view.emb (ix3 y0 y1 y2) = ix3 (batch t) y1 y2 := by blk_ext [batch, blockOf t]
  rw [e]
  rfl

/-- What the body stores of the new multipliers at a grid point is that batch of them. -/
theorem block6 (t : Fin cfg0.N) (y : S1x1x8192.Idx) :
    k0_pay7 (F := Ideal) (iblk m c 0 t) (iblk m c 1 t) (iblk m c 4 t) (iblk m c 3 t) (iblk m c 2 t) y
      = multT m c (((cfg0.win 6).blk t).view.emb y) := by
  idx_vars y
  refine (store6_apply _ _ _ _ _ y0 y1 y2).trans ?_
  rw [dist_block, in2, in3, in4]
  have e : ((cfg0.win 6).blk t).view.emb (ix3 y0 y1 y2) = ix3 (batch t) y1 y2 := by blk_ext [batch, blockOf t]
  rw [e]
  rfl

/-- The first output array when the grid is done. -/
theorem final5 : (dats m 0 c).arrAt 5 (cfgs 0).N = movedT m c := by
  refine (dats m 0 c).arrAt_eq_of_covers 5 _ (by decide +kernel) fun t hf y => ?_
  blk_simp
  rw [after0_5]
  frame_out
  exact block5 m c t y

/-- The second output array when the grid is done. -/
theorem final6 : (dats m 0 c).arrAt 6 (cfgs 0).N = multT m c := by
  refine (dats m 0 c).arrAt_eq_of_covers 6 _ (by decide +kernel) fun t hf y => ?_
  blk_simp
  rw [after0_6]
  frame_out
  exact block6 m c t y

end Cert.KernelIdeal.Entries

end
-- ==== Proof.Tail.lean ====
module

public import proofs.«01_k».proof.Proof.Blocks

@[expose] public section

set_option maxRecDepth 16384

noncomputable section

/-! # The kernel's results, entry by entry -/

namespace Cert.KernelIdeal.Entries

open Cert.KernelIdeal Cert.KernelIdeal.Gen Idealize.ShloMosaic Idealize.ShloMosaic.TcCoe Idealize.SL.Sem

/-- The last host operations, on a result array `u` of moved vertices and the vertices `x`: rows below 8192 from `u`, the others from `x`. -/
def spread (u : FVec Ideal S16x3x8192 .f32) (x : FVec Ideal S16x100000x3 .f32) : FVec Ideal S16x100000x3 .f32 :=
  select (broadcastInDim S16x100000x3 ![0, 1, 2] bcast_S1x100000x1_S16x100000x3_0_1_2
      (cmpi .slt (iotaInDim S1x100000x1 32 1) (broadcastInDim S1x100000x1 ![] bcast_S_S1x100000x1 (constantI S_ 32 8192#32))))
    (pad S16x100000x3 ![0, 0, 0] ![0, 91808, 0] ![0, 0, 0] (transpose S16x8192x3 [0, 2, 1] u transposes_S16x3x8192_S16x8192x3_0_2_1)
      (sitofp .f32 (constantI S_ 32 0#32)) pads_S16x8192x3_S16x100000x3_000_0918080_000 h_S_) x

/-- The host operations after the region, read at the first result, from any contents before them. -/
theorem tail_v13 (s : Valuation τ sig (Elt Ideal)) :
    StableHlo.after (List.flatten [hostOps1, hostOps1_1, hostOps1_2, hostOps1_3, hostOps1_4]) s (Proc.devRef .tc main_v13)
      = spread (s (Proc.devRef .tc main_v7_0)) (s (Proc.devRef .tc main_arg0)) := by
  simp only [hostOps1, hostOps1_1, hostOps1_2, hostOps1_3, hostOps1_4, List.flatten_cons, List.flatten_nil, List.append_nil, List.cons_append, List.nil_append,
    StableHlo.TRef.unary, StableHlo.TRef.binary, StableHlo.TRef.ternary, StableHlo.TRef.toBuf, StableHlo.TRef.ofBuf, cast_eq]
  after_results_simp
  rfl

/-- The host operations after the region, read at the second result, from any contents before them. -/
theorem tail_v14 (s : Valuation τ sig (Elt Ideal)) :
    StableHlo.after (List.flatten [hostOps1, hostOps1_1, hostOps1_2, hostOps1_3, hostOps1_4]) s (Proc.devRef .tc main_v14)
      = (transpose S16x8192x1 [0, 2, 1] (s (Proc.devRef .tc main_v7_1)) transposes_S16x1x8192_S16x8192x1_0_2_1 : FVec Ideal S16x8192x1 .f32) := by
  simp only [hostOps1, hostOps1_1, hostOps1_2, hostOps1_3, hostOps1_4, List.flatten_cons, List.flatten_nil, List.append_nil, List.cons_append, List.nil_append,
    StableHlo.TRef.unary, StableHlo.TRef.binary, StableHlo.TRef.ternary, StableHlo.TRef.toBuf, StableHlo.TRef.ofBuf, cast_eq]
  after_results_simp

/-- The test of a row number against 8192, as the kernel makes it on words. -/
theorem row_test (r : Fin 100000) : IntOp.cmpi .slt (BitVec.ofNat 32 r.val) 8192#32 = if r.val < 8192 then 1#1 else 0#1 := by
  have := r.isLt
  have e : (BitVec.ofNat 32 r.val).toNat = r.val := by
    rw [BitVec.toNat_ofNat]
    omega
  have i : (BitVec.ofNat 32 r.val).toInt = (r.val : Int) := by rw [BitVec.toInt_eq_toNat_of_lt (by omega), e]
  rw [WordCmp.cmpi_slt_eq, i]
  show BitVec.ofBool (decide ((r.val : Int) < (8192 : Int))) = _
  by_cases h : r.val < 8192
  · rw [if_pos h, decide_eq_true (by omega)]
    rfl
  · rw [if_neg h, decide_eq_false (by omega)]
    rfl

/-- A row below 8192 comes from the result array. -/
theorem spread_low (u : FVec Ideal S16x3x8192 .f32) (x : FVec Ideal S16x100000x3 .f32) (b : Fin 16) (r : Fin 100000) (k : Fin 3) (hr : r.val < 8192) :
    spread u x (ix3 b r k) = u (ix3 b k ⟨r.val, hr⟩) := by
  unfold spread
  pointwise
  rw [row_test, if_pos hr, dif_pos hr]
  rfl

/-- A row from 8192 on keeps the vertex. -/
theorem spread_high (u : FVec Ideal S16x3x8192 .f32) (x : FVec Ideal S16x100000x3 .f32) (b : Fin 16) (r : Fin 100000) (k : Fin 3) (hr : ¬ r.val < 8192) :
    spread u x (ix3 b r k) = x (ix3 b r k) := by
  unfold spread
  pointwise
  rw [row_test, if_neg hr]
  rfl

variable (m : (ℓ : Loc nD τ sig) → Buf (Elt Ideal) ℓ) (c : Dev nD)

/-- The kernel's first result. -/
def out0 : FVec Ideal S16x100000x3 .f32 := spread (movedT m c) (A0 m c)

/-- The kernel's second result. -/
def out1 : FVec Ideal S16x8192x1 .f32 := transpose S16x8192x1 [0, 2, 1] (multT m c) transposes_S16x1x8192_S16x8192x1_0_2_1

/-- The first result at a row below 8192: the moved vertex. -/
theorem out0_low (b : Fin 16) (r : Fin 100000) (k : Fin 3) (hr : r.val < 8192) :
    out0 m c (ix3 b r k) = Step.rowMove (A0 m c) (A1 m c) (A2 m c) (A3 m c) (A4 m c) b ⟨r.val, hr⟩ k :=
  (spread_low _ _ b r k hr).trans rfl

/-- The first result at a row from 8192 on: the vertex as it was. -/
theorem out0_high (b : Fin 16) (r : Fin 100000) (k : Fin 3) (hr : ¬ r.val < 8192) : out0 m c (ix3 b r k) = A0 m c (ix3 b r k) :=
  spread_high _ _ b r k hr

/-- The second result at an entry: the multiplier plus its change. -/
theorem out1_apply (b : Fin 16) (g : Fin 8192) : out1 m c (ix3 b g 0)
    = A1 m c (ix3 b g 0) + Step.rowDelta (A0 m c) (A1 m c) (A2 m c) (A3 m c) (A4 m c) b g := by
  have h : out1 m c (ix3 b g 0) = multT m c (ix3 b 0 g) := by
    unfold out1
    pointwise
  exact h.trans rfl

/-- The contents of the buffers when the region is done. -/
abbrev exitV : Valuation τ sig (Elt Ideal) := Pipeline.withArrays (cfgs 0).spec c (V0 m c) fun w => (dats m 0 c).arrAt w (cfgs 0).N

/-- The region's first output array then holds the moved vertices. -/
theorem exit_v7_0 : exitV m c (Proc.devRef .tc main_v7_0) = movedT m c :=
  (Pipeline.withArrays_arr spec0 launch0.win.arr_inj c (V0 m c) (fun w => (dats m 0 c).arrAt w (cfgs 0).N) 5).trans (final5 m c)

/-- The region's second output array then holds the new multipliers. -/
theorem exit_v7_1 : exitV m c (Proc.devRef .tc main_v7_1) = multT m c :=
  (Pipeline.withArrays_arr spec0 launch0.win.arr_inj c (V0 m c) (fun w => (dats m 0 c).arrAt w (cfgs 0).N) 6).trans (final6 m c)

/-- The vertices are still as launched. -/
theorem exit_arg0 : exitV m c (Proc.devRef .tc main_arg0) = A0 m c :=
  (Pipeline.withArrays_of_ne spec0 c (V0 m c) (fun w => (dats m 0 c).arrAt w (cfgs 0).N) main_arg0 (by decide)).trans (V_main_arg0 m c)

/-- The buffer of the first result after the last host operation. -/
theorem end_v13 : Pipeline.afterTail₀ cfgs (dats m) 0 (V0 m) [hostOps1, hostOps1_1, hostOps1_2, hostOps1_3, hostOps1_4] c main_v13 = out0 m c := by
  refine (tail_v13 (exitV m c)).trans ?_
  rw [exit_v7_0, exit_arg0]
  rfl

/-- The buffer of the second result after the last host operation. -/
theorem end_v14 : Pipeline.afterTail₀ cfgs (dats m) 0 (V0 m) [hostOps1, hostOps1_1, hostOps1_2, hostOps1_3, hostOps1_4] c main_v14 = out1 m c := by
  refine (tail_v14 (exitV m c)).trans ?_
  rw [exit_v7_1]
  rfl

/-- Every execution of the kernel ends with these two results, and with its arguments as they were. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v13) = out0 m c
      ∧ r.2.mem ((c.tc : Thread nD τ).loc main_v14) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨((h.1 c).2 main_v13 (Pipeline.mem_restRefs_of main_v13 (by decide) (by decide))).trans (end_v13 m c),
        ((h.1 c).2 main_v14 (Pipeline.mem_restRefs_of main_v14 (by decide) (by decide))).trans (end_v14 m c), h.2 c⟩)
    (θ_run_and (run_main m ρ) (unchanged m ρ))

end Cert.KernelIdeal.Entries

end
-- ==== Proof.Columns.lean ====
module

public import proofs.«01_k».proof.Proof.Gen.ReferenceIdeal
public import proofs.«01_k».proof.Proof.Gen.ReferenceIdeal.Run
public import proofs.«01_k».proof.Proof.Gen.Pre_indices_in_order
public import Idealize.ShloMosaic.Lib.Pipeline.ValueKit
public import Idealize.ShloMosaic.Lib.Pointwise
public import Idealize.ShloMosaic.Lib.WordCmp
public import Idealize.ShloMosaic.Lib.ReduceAll
public import Idealize.ShloMosaic.Lib.Routing.OpsSet
public import proofs.«01_k».proof.Proof.Step

@[expose] public section

set_option maxRecDepth 16384

noncomputable section

/-! # Reading and writing the first 8192 rows

The reference reads the rows that an index array names and writes them back. Here the index array
holds `0, 1, …, 8191`, so the read returns the first 8192 rows and the write replaces just those. -/

namespace Cert.ReferenceIdeal.Columns

open Cert.ReferenceIdeal Cert.ReferenceIdeal.Gen Idealize.ShloMosaic Idealize.ShloMosaic.WordCmp Idealize.ShloMosaic.Routing

/-- The index array counts up from zero: its entry `g` is the word `g`. -/
def InOrder (C : IVec S8192 32) : Prop := ∀ g : Fin 8192, C (ix1 g) = BitVec.ofNat 32 g.val

/-- If the precondition's predicate holds of the arguments, the index array counts up from zero. -/
theorem inOrder_of_pre (a0 : FVec Ideal S16x100000x3 .f32) (a1 : FVec Ideal S16x8192x1 .f32) (a2 : FVec Ideal S16x8192x3 .f32)
    (a3 : FVec Ideal S16x100000x1 .f32) (a4 : FVec Ideal S8192x1 .f32) (C : IVec S8192 32)
    (h : Cert.Pre_indices_in_order.fn (F := Ideal) a0 a1 a2 a3 a4 C = fun _ => 1#1) : InOrder C := by
  intro g
  have e := congrFun h ix0
  unfold Cert.Pre_indices_in_order.fn at e
  haveI : Subsingleton (Cert.Pre_indices_in_order.S_).Idx := ⟨fun a b => funext fun i => i.elim0⟩
  have q := Host.reduce_andi_all _ _ _ _ _ e (ix1 g)
  have r := IntOp.cmpi_eq.1 q
  exact r

/-- The index array as a column, a negative index counted from the end, as the reference forms it. -/
def wordCol (C : IVec S8192 32) : IVec S8192x1 32 :=
  broadcastInDim S8192x1 ![0] bcast_S8192_S8192x1_0 (select (cmpi .slt C (broadcastInDim S8192 ![] bcast_S_S8192 (constantI S_ 32 0#32)))
    (addi C (broadcastInDim S8192 ![] bcast_S_S8192 (constantI S_ 32 100000#32))) C)

/-- The word `g`, read as a signed number, is `g`. -/
theorem row_toInt (g : Fin 8192) : (BitVec.ofNat 32 g.val).toInt = (g.val : Int) := by
  have := g.isLt
  have e : (BitVec.ofNat 32 g.val).toNat = g.val := by
    rw [BitVec.toNat_ofNat]
    omega
  rw [BitVec.toInt_eq_toNat_of_lt (by omega), e]

/-- Entry `g` of that column, read as a signed number, is `g`. -/
theorem wordCol_toInt (C : IVec S8192 32) (hC : InOrder C) (j : S8192x1.Idx) : (wordCol C j).toInt = ((j 0).val : Int) := by
  idx_vars j
  have hb : wordCol C (ix2 j0 j1) = C (ix1 j0) := by
    unfold wordCol
    pointwise
    rw [hC]
    refine if_neg ?_
    rw [cmpi_slt_eq, row_toInt, decide_eq_false]
    · decide
    · show ¬ (j0.val : Int) < 0
      omega
  rw [hb, hC]
  exact row_toInt j0

/-- Which rows the reference's bounds test lets through. -/
def inside (C : IVec S8192 32) : IVec S8192 1 :=
  Host.reduce IntOp.andi (andi (cmpi .sge (wordCol C) (broadcastInDim S8192x1 ![] bcast_S_S8192x1 (constantI S_ 32 0#32)))
    (cmpi .sle (wordCol C) (broadcastInDim S8192x1 ![0, 1] bcast_S1x1_S8192x1_0_1 (broadcastInDim S1x1 ![1] bcast_S1_S1x1_1 (constantI S1 32 99999#32)))))
    (constantI S_ 1 1#1) reducesTo_S8192x1_S8192_d1 h_S_

/-- It lets every row through. -/
theorem inside_one (C : IVec S8192 32) (hC : InOrder C) (j : S8192.Idx) : inside C j = 1#1 := by
  unfold inside
  refine Host.reduce_andi_one _ _ _ _ _ rfl fun i => ?_
  have h := wordCol_toInt C hC i
  have hlt : (i 0).val < 8192 := (i 0).isLt
  have h1 : IntOp.cmpi .sge (wordCol C i) 0#32 = 1#1 := by
    rw [cmpi_sge_eq, h, decide_eq_true]
    · rfl
    · show (0 : Int) ≤ _
      omega
  have h2 : IntOp.cmpi .sle (wordCol C i) 99999#32 = 1#1 := by
    rw [cmpi_sle_eq, h, decide_eq_true]
    · rfl
    · show _ ≤ (99999 : Int)
      omega
  show IntOp.andi (IntOp.cmpi .sge (wordCol C i) 0#32) (IntOp.cmpi .sle (wordCol C i) 99999#32) = 1#1
  rw [h1, h2]
  rfl

/-- The three-column read of the reference. -/
def take3 (C : IVec S8192 32) (x : FVec Ideal S16x100000x3 .f32) : FVec Ideal S16x8192x3 .f32 :=
  select (broadcastInDim S16x8192x3 ![1] bcast_S8192_S16x8192x3_1 (inside C)) (Host.gather gather_S16x100000x3_S8192x1_S16x8192x3_02_1_n_n_1_1_1613 x (wordCol C))
    (broadcastInDim S16x8192x3 ![] bcast_S_S16x8192x3 (constant S_ .f32 0x7FC00000#32))

/-- The one-column read of the reference. -/
def take1 (C : IVec S8192 32) (x : FVec Ideal S16x100000x1 .f32) : FVec Ideal S16x8192x1 .f32 :=
  select (broadcastInDim S16x8192x1 ![1] bcast_S8192_S16x8192x1_1 (inside C)) (Host.gather gather_S16x100000x1_S8192x1_S16x8192x1_02_1_n_n_1_1_1611 x (wordCol C))
    (broadcastInDim S16x8192x1 ![] bcast_S_S16x8192x1 (constant S_ .f32 0x7FC00000#32))

/-- The three-column read returns the first 8192 rows. -/
theorem take3_apply (C : IVec S8192 32) (hC : InOrder C) (x : FVec Ideal S16x100000x3 .f32) (b : Fin 16) (g : Fin 8192) (k : Fin 3) :
    take3 C x (ix3 b g k) = x (ix3 b (Step.wide g) k) := by
  unfold take3
  have h1 : broadcastInDim S16x8192x3 ![1] bcast_S8192_S16x8192x3_1 (inside C) (ix3 b g k) = 1#1 := inside_one C hC _
  refine (if_pos h1).trans (congrArg x (funext fun a => Fin.ext ?_))
  match a with
  | ⟨0, _⟩ => show 0 + 0 + b.val = b.val; omega
  | ⟨1, _⟩ =>
    show min (wordCol C _).toInt.toNat (100000 - 1) + 0 + 0 = g.val
    rw [wordCol_toInt C hC]
    have := g.isLt
    show min (g.val : Int).toNat 99999 + 0 + 0 = g.val
    omega
  | ⟨2, _⟩ => show 0 + 0 + k.val = k.val; omega

/-- The one-column read returns the first 8192 rows. -/
theorem take1_apply (C : IVec S8192 32) (hC : InOrder C) (x : FVec Ideal S16x100000x1 .f32) (b : Fin 16) (g : Fin 8192) (k : Fin 1) :
    take1 C x (ix3 b g k) = x (ix3 b (Step.wide g) k) := by
  unfold take1
  have h1 : broadcastInDim S16x8192x1 ![1] bcast_S8192_S16x8192x1_1 (inside C) (ix3 b g k) = 1#1 := inside_one C hC _
  refine (if_pos h1).trans (congrArg x (funext fun a => Fin.ext ?_))
  match a with
  | ⟨0, _⟩ => show 0 + 0 + b.val = b.val; omega
  | ⟨1, _⟩ =>
    show min (wordCol C _).toInt.toNat (100000 - 1) + 0 + 0 = g.val
    rw [wordCol_toInt C hC]
    have := g.isLt
    show min (g.val : Int).toNat 99999 + 0 + 0 = g.val
    omega
  | ⟨2, _⟩ => show 0 + 0 + k.val = k.val; omega

/-- The reference's write of `u` into `x`. -/
def put (C : IVec S8192 32) (x : FVec Ideal S16x100000x3 .f32) (u : FVec Ideal S16x8192x3 .f32) : FVec Ideal S16x100000x3 .f32 :=
  Host.scatter scatter_S16x100000x3_S8192x1_S16x8192x3_02_1_1_1 (fun _ b => b) x (wordCol C) u

/-- An entry of `u` is written to one place exactly: the same batch and column, and the row of its own number. -/
theorem put_lands (C : IVec S8192 32) (hC : InOrder C) (b : Fin 16) (g : Fin 8192) (k : Fin 3) (B : Fin 16) (r : Fin 100000) (K : Fin 3) :
    scatter_S16x100000x3_S8192x1_S16x8192x3_02_1_1_1.resultIdx? (ix3 b g k) (wordCol C) = some (ix3 B r K) ↔ b = B ∧ g.val = r.val ∧ k = K := by
  rw [resultIdx?_eq_some]
  have e0 : scatter_S16x100000x3_S8192x1_S16x8192x3_02_1_1_1.start (ix3 b g k) (wordCol C) 0
      + (scatter_S16x100000x3_S8192x1_S16x8192x3_02_1_1_1.window (ix3 b g k) 0 : Int) = 0 + (b.val : Int) := rfl
  have e1 : scatter_S16x100000x3_S8192x1_S16x8192x3_02_1_1_1.start (ix3 b g k) (wordCol C) 1
      + (scatter_S16x100000x3_S8192x1_S16x8192x3_02_1_1_1.window (ix3 b g k) 1 : Int) = (g.val : Int) + ((0 : Nat) : Int) := by
    refine congrArg (fun z : Int => z + ((0 : Nat) : Int)) ?_
    exact wordCol_toInt C hC _
  have e2 : scatter_S16x100000x3_S8192x1_S16x8192x3_02_1_1_1.start (ix3 b g k) (wordCol C) 2
      + (scatter_S16x100000x3_S8192x1_S16x8192x3_02_1_1_1.window (ix3 b g k) 2 : Int) = 0 + (k.val : Int) := rfl
  constructor
  · intro h
    have h0 := (e0.symm.trans (h 0) : 0 + (b.val : Int) = (B.val : Int))
    have h1 := (e1.symm.trans (h 1) : (g.val : Int) + ((0 : Nat) : Int) = (r.val : Int))
    have h2 := (e2.symm.trans (h 2) : 0 + (k.val : Int) = (K.val : Int))
    exact ⟨Fin.ext (by omega), by omega, Fin.ext (by omega)⟩
  · rintro ⟨rfl, h1, rfl⟩ a
    match a with
    | ⟨0, _⟩ => exact e0.trans (zero_add _)
    | ⟨1, _⟩ => exact e1.trans (by show (g.val : Int) + ((0 : Nat) : Int) = (r.val : Int); omega)
    | ⟨2, _⟩ => exact e2.trans (zero_add _)

/-- A row below 8192 holds the new row after the write. -/
theorem put_low (C : IVec S8192 32) (hC : InOrder C) (x : FVec Ideal S16x100000x3 .f32) (u : FVec Ideal S16x8192x3 .f32)
    (b : Fin 16) (r : Fin 100000) (k : Fin 3) (hr : r.val < 8192) : put C x u (ix3 b r k) = u (ix3 b ⟨r.val, hr⟩ k) := by
  refine scatter_set_hit _ x (wordCol C) u _ _ (fun j hj => ?_) (ix3 b ⟨r.val, hr⟩ k) ((put_lands C hC _ _ _ _ _ _).2 ⟨rfl, rfl, rfl⟩)
  idx_vars j
  obtain ⟨h0, h1, h2⟩ := (put_lands C hC _ _ _ _ _ _).1 hj
  subst h0 h2
  exact congrArg (fun g => u (ix3 j0 g j2)) (Fin.ext h1)

/-- A row from 8192 on keeps its old contents. -/
theorem put_high (C : IVec S8192 32) (hC : InOrder C) (x : FVec Ideal S16x100000x3 .f32) (u : FVec Ideal S16x8192x3 .f32)
    (b : Fin 16) (r : Fin 100000) (k : Fin 3) (hr : ¬ r.val < 8192) : put C x u (ix3 b r k) = x (ix3 b r k) := by
  refine scatter_set_miss _ x (wordCol C) u _ fun j hj => ?_
  idx_vars j
  have h := ((put_lands C hC _ _ _ _ _ _).1 hj).2.1
  have := j1.isLt
  omega

end Cert.ReferenceIdeal.Columns

end
-- ==== Proof.Reference.lean ====
module

public import proofs.«01_k».proof.Proof.Columns

@[expose] public section

set_option maxRecDepth 16384

noncomputable section

/-! # The reference's results, entry by entry -/

namespace Cert.ReferenceIdeal.Entries

open Cert.ReferenceIdeal Cert.ReferenceIdeal.Gen Cert.ReferenceIdeal.Columns Idealize.ShloMosaic

/-- The three coordinate differences of every row. -/
def gap (v p : FVec Ideal S16x8192x3 .f32) : FVec Ideal S16x8192x3 .f32 := subf v p

/-- The Euclidean length of the three differences. -/
def len (v p : FVec Ideal S16x8192x3 .f32) : FVec Ideal S16x8192x1 .f32 :=
  Host.sqrt (broadcastInDim S16x8192x1 ![0, 1] bcast_S16x8192_S16x8192x1_0_1 (Host.reduceAdd (mulf (gap v p) (gap v p)) (constant S_ .f32 0x00000000#32) reducesTo_S16x8192x3_S16x8192_d2 h_S_))

/-- The step of the multiplier. -/
def stepL (v p : FVec Ideal S16x8192x3 .f32) (w l : FVec Ideal S16x8192x1 .f32) (d : FVec Ideal S8192x1 .f32) : FVec Ideal S16x8192x1 .f32 :=
  Host.divf (subf (Host.negf (subf (len v p) (broadcastInDim S16x8192x1 ![0, 1, 2] bcast_S1x8192x1_S16x8192x1_0_1_2 (broadcastInDim S1x8192x1 ![1, 2] bcast_S8192x1_S1x8192x1_1_2 d))))
    (mulf (broadcastInDim S16x8192x1 ![] bcast_S_S16x8192x1 (constant S_ .f32 0x42C80000#32)) l))
    (addf (select (cmpf .oeq w (broadcastInDim S16x8192x1 ![] bcast_S_S16x8192x1 (constant S_ .f32 0x00000000#32))) (broadcastInDim S16x8192x1 ![] bcast_S_S16x8192x1 (id (constant S_ .f32 0x7F800000#32))) w)
      (broadcastInDim S16x8192x1 ![] bcast_S_S16x8192x1 (constant S_ .f32 0x42C80000#32)))

/-- The moved rows. -/
def moved (v p : FVec Ideal S16x8192x3 .f32) (w l : FVec Ideal S16x8192x1 .f32) (d : FVec Ideal S8192x1 .f32) : FVec Ideal S16x8192x3 .f32 :=
  addf v (mulf (broadcastInDim S16x8192x3 ![0, 1, 2] bcast_S16x8192x1_S16x8192x3_0_1_2 (mulf w (stepL v p w l d)))
    (Host.divf (gap v p) (broadcastInDim S16x8192x3 ![0, 1, 2] bcast_S16x8192x1_S16x8192x3_0_1_2 (len v p))))

/-- The reference's distance at a row is the row's distance. -/
theorem len_apply (v p : FVec Ideal S16x8192x3 .f32) (b : Fin 16) (g : Fin 8192) (e : Fin 1) :
    len v p (ix3 b g e) = Step.dist (fun k => v (ix3 b g k)) (fun k => p (ix3 b g k)) := by
  unfold len gap Step.dist
  pointwise

/-- The reference's change of the multiplier at a row is the row's change. -/
theorem stepL_apply (v p : FVec Ideal S16x8192x3 .f32) (w l : FVec Ideal S16x8192x1 .f32) (d : FVec Ideal S8192x1 .f32) (b : Fin 16) (g : Fin 8192) (e : Fin 1) :
    stepL v p w l d (ix3 b g e) = Step.delta (len v p (ix3 b g e)) (w (ix3 b g e)) (l (ix3 b g e)) (d (ix2 g 0)) := by
  unfold stepL Step.delta
  pointwise
  rfl

/-- The reference's moved row is the row's moved vertex. -/
theorem moved_apply (v p : FVec Ideal S16x8192x3 .f32) (w l : FVec Ideal S16x8192x1 .f32) (d : FVec Ideal S8192x1 .f32) (b : Fin 16) (g : Fin 8192) (k : Fin 3) :
    moved v p w l d (ix3 b g k) = Step.move (len v p (ix3 b g 0)) (w (ix3 b g 0)) (l (ix3 b g 0)) (d (ix2 g 0)) (v (ix3 b g k)) (p (ix3 b g k)) := by
  unfold moved gap Step.move
  rw [← stepL_apply]
  pointwise

variable (m : (ℓ : Loc nD τ sig) → Buf (Elt Ideal) ℓ) (c : Dev nD)

/-- The argument arrays by their number. -/
abbrev A0 : FVec Ideal S16x100000x3 .f32 := m ((c.tc : Thread nD τ).loc main_arg0)
/-- The multipliers. -/
abbrev A1 : FVec Ideal S16x8192x1 .f32 := m ((c.tc : Thread nD τ).loc main_arg1)
/-- The grasp points. -/
abbrev A2 : FVec Ideal S16x8192x3 .f32 := m ((c.tc : Thread nD τ).loc main_arg2)
/-- The vertex weights. -/
abbrev A3 : FVec Ideal S16x100000x1 .f32 := m ((c.tc : Thread nD τ).loc main_arg3)
/-- The rest distances. -/
abbrev A4 : FVec Ideal S8192x1 .f32 := m ((c.tc : Thread nD τ).loc main_arg4)
/-- The index array. -/
abbrev A5 : IVec S8192 32 := m ((c.tc : Thread nD τ).loc main_arg5)

/-- The reference's second result, as its read, step and sum. -/
theorem out1_eq : Value.res_out1 m c
    = addf (A1 m c) (stepL (take3 (A5 m c) (A0 m c)) (A2 m c) (take1 (A5 m c) (A3 m c)) (A1 m c) (A4 m c)) := rfl

/-- The reference's first result, as its read, step and write. -/
theorem out0_eq : Value.res_out0 m c
    = put (A5 m c) (A0 m c) (moved (take3 (A5 m c) (A0 m c)) (A2 m c) (take1 (A5 m c) (A3 m c)) (A1 m c) (A4 m c)) := rfl

/-- The reference's distance, when the index array counts up. -/
theorem len_take (hC : InOrder (A5 m c)) (b : Fin 16) (g : Fin 8192) (e : Fin 1) :
    len (take3 (A5 m c) (A0 m c)) (A2 m c) (ix3 b g e) = Step.rowDist (A0 m c) (A2 m c) b g := by
  rw [len_apply]
  unfold Step.rowDist
  simp only [take3_apply _ hC]

/-- The second result at an entry: the multiplier plus its change. -/
theorem out1_apply (hC : InOrder (A5 m c)) (b : Fin 16) (g : Fin 8192) : Value.res_out1 m c (ix3 b g 0)
    = A1 m c (ix3 b g 0) + Step.rowDelta (A0 m c) (A1 m c) (A2 m c) (A3 m c) (A4 m c) b g := by
  rw [out1_eq]
  show A1 m c (ix3 b g 0) + stepL _ _ _ _ _ (ix3 b g 0) = _
  rw [stepL_apply, len_take m c hC, take1_apply _ hC]
  rfl

/-- The first result at a row below 8192: the moved vertex. -/
theorem out0_low (hC : InOrder (A5 m c)) (b : Fin 16) (r : Fin 100000) (k : Fin 3) (hr : r.val < 8192) : Value.res_out0 m c (ix3 b r k)
    = Step.rowMove (A0 m c) (A1 m c) (A2 m c) (A3 m c) (A4 m c) b ⟨r.val, hr⟩ k := by
  rw [out0_eq, put_low _ hC _ _ b r k hr, moved_apply, len_take m c hC, take1_apply _ hC, take3_apply _ hC]
  rfl

/-- The first result at a row from 8192 on: the vertex as it was. -/
theorem out0_high (hC : InOrder (A5 m c)) (b : Fin 16) (r : Fin 100000) (k : Fin 3) (hr : ¬ r.val < 8192) :
    Value.res_out0 m c (ix3 b r k) = A0 m c (ix3 b r k) := by
  rw [out0_eq, put_high _ hC _ _ b r k hr]

end Cert.ReferenceIdeal.Entries

end
-- ==== Proof.Equation.lean ====
/- The kernel's results are the reference's: the entries of the two, met one by one. -/
module

public import proofs.«01_k».proof.Proof.Tail
public import proofs.«01_k».proof.Proof.Reference

@[expose] public section

noncomputable section

namespace Cert.Equation

open Idealize.ShloMosaic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Two vertex arrays equal at every entry are equal. -/
theorem vertices_ext {u v : FVec Ideal Cert.KernelIdeal.S16x100000x3 .f32} (h : ∀ (b : Fin 16) (r : Fin 100000) (k : Fin 3), u (ix3 b r k) = v (ix3 b r k)) : u = v := by
  funext j
  idx_vars j
  exact h _ _ _

/-- Two multiplier arrays equal at every entry are equal. -/
theorem multipliers_ext {u v : FVec Ideal Cert.KernelIdeal.S16x8192x1 .f32} (h : ∀ (b : Fin 16) (g : Fin 8192), u (ix3 b g 0) = v (ix3 b g 0)) : u = v := by
  funext j
  idx_vars j
  obtain rfl : j2 = (0 : Fin 1) := Fin.fin_one_eq_zero j2
  exact h _ _

/-- The two memories hold the same five float arguments on a device. -/
structure Agree : Prop where
  a0 : Cert.ReferenceIdeal.Entries.A0 m' c = Cert.KernelIdeal.Entries.A0 m c
  a1 : Cert.ReferenceIdeal.Entries.A1 m' c = Cert.KernelIdeal.Entries.A1 m c
  a2 : Cert.ReferenceIdeal.Entries.A2 m' c = Cert.KernelIdeal.Entries.A2 m c
  a3 : Cert.ReferenceIdeal.Entries.A3 m' c = Cert.KernelIdeal.Entries.A3 m c
  a4 : Cert.ReferenceIdeal.Entries.A4 m' c = Cert.KernelIdeal.Entries.A4 m c

variable {m m' c}

/-- The vertices after the step are the same in both programs. -/
theorem out0 (h : Agree m m' c) (hC : Cert.ReferenceIdeal.Columns.InOrder (Cert.ReferenceIdeal.Entries.A5 m' c)) :
    Cert.ReferenceIdeal.Value.res_main_v31 m' c = Cert.KernelIdeal.Entries.out0 m c := by
  refine vertices_ext fun b r k => ?_
  by_cases hr : r.val < 8192
  · refine (Cert.ReferenceIdeal.Entries.out0_low m' c hC b r k hr).trans ?_
    rw [h.a0, h.a1, h.a2, h.a3, h.a4]
    exact (Cert.KernelIdeal.Entries.out0_low m c b r k hr).symm
  · refine (Cert.ReferenceIdeal.Entries.out0_high m' c hC b r k hr).trans ?_
    rw [h.a0]
    exact (Cert.KernelIdeal.Entries.out0_high m c b r k hr).symm

/-- The multipliers after the step are the same in both programs. -/
theorem out1 (h : Agree m m' c) (hC : Cert.ReferenceIdeal.Columns.InOrder (Cert.ReferenceIdeal.Entries.A5 m' c)) :
    Cert.ReferenceIdeal.Value.res_main_v19 m' c = Cert.KernelIdeal.Entries.out1 m c := by
  refine multipliers_ext fun b g => ?_
  refine (Cert.ReferenceIdeal.Entries.out1_apply m' c hC b g).trans ?_
  rw [h.a0, h.a1, h.a2, h.a3, h.a4]
  exact (Cert.KernelIdeal.Entries.out1_apply m c b g).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_indices_in_order
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference leaves its arguments as they were, and it declares no semaphore whose counter could move. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2, sem_eq_zero_of_no_sems rfl r.2⟩) (Cert.ReferenceIdeal.Value.run m ρ)

/-- Both programs end with the kernel's two results, when the grasped vertices are the first 8192 in order. -/
theorem same_results [Cert.Pre_indices_in_order.Facts] : algebraic_KernelIdeal_ReferenceIdeal_pre_indices_in_order := by
  intro m g m' g' hpre hagree
  have hA : ∀ c, Equation.Agree m m' c := fun c =>
    ⟨(hagree c).1, (hagree c).2.1, (hagree c).2.2.1, (hagree c).2.2.2.1, (hagree c).2.2.2.2.1⟩
  have hC : ∀ c, Cert.ReferenceIdeal.Columns.InOrder (Cert.ReferenceIdeal.Entries.A5 m' c) := fun c => by
    have h := (hagree c).2.2.2.2.2
    change Cert.ReferenceIdeal.Entries.A5 m' c = _ at h
    rw [h]
    exact Cert.ReferenceIdeal.Columns.inOrder_of_pre _ _ _ _ _ _ (hpre c)
  exact ⟨Cert.KernelIdeal.Entries.out0 m, Cert.KernelIdeal.Entries.out1 m, Cert.KernelIdeal.Entries.run m g,
    (θ_run Cert.ReferenceIdeal.defs _ _).mono (fun _ h c =>
      ⟨(h c).1.trans (Equation.out0 (hA c) (hC c)), (h c).2.1.trans (Equation.out1 (hA c) (hC c)), (h c).2.2⟩)
      (Cert.ReferenceIdeal.Value.run m' g')⟩

/-- Every claim of the certificate. -/
theorem claim : Cert.Claim := ⟨Cert.Kernel.Gen.facts, Cert.KernelIdeal.Gen.facts, Cert.ReferenceIdeal.Gen.facts, Cert.Pre_indices_in_order.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, same_results⟩

end Cert.Proof

end
